-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S16384x128 : Shape := ⟨2, ![16384, 128]⟩
abbrev S16384 : Shape := ⟨1, ![16384]⟩
abbrev S1024x128 : Shape := ⟨2, ![1024, 128]⟩
abbrev S_ : Shape := ⟨0, ![]⟩
abbrev S16384x1 : Shape := ⟨2, ![16384, 1]⟩
abbrev S1024x100000 : Shape := ⟨2, ![1024, 100000]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S2048x1 : Shape := ⟨2, ![2048, 1]⟩

abbrev nBuf : Space → Nat
  | .hbm => 24
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S16384x128, .f32⟩
  | .hbm, ⟨2, _⟩ => ⟨S16384, .i32⟩
  | .hbm, ⟨3, _⟩ => ⟨S1024x128, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S16384x128, .f32⟩
  | .hbm, ⟨13, _⟩ => ⟨S16384x128, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S100000x128, .f32⟩
  | .hbm, ⟨23, _⟩ => ⟨S1024x100000, .f32⟩
  | .local _ .vmem, ⟨0, _⟩ => ⟨S2048x128, .f32⟩
  | .local _ .vmem, ⟨1, _⟩ => ⟨S2048x128, .f32⟩
  | .local _ .vmem, ⟨2, _⟩ => ⟨S1024x128, .f32⟩
  | .local _ .vmem, ⟨3, _⟩ => ⟨S1024x2048, .f32⟩
  | .local _ .vmem, ⟨4, _⟩ => ⟨S1024x2048, .f32⟩
  | .local _ .vmem, ⟨5, _⟩ => ⟨S1024x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S100000x128 : Shape := ⟨2, ![100000, 128]⟩
abbrev S16384x128 : Shape := ⟨2, ![16384, 128]⟩
abbrev S16384 : Shape := ⟨1, ![16384]⟩
abbrev S1024x128 : Shape := ⟨2, ![1024, 128]⟩
abbrev S_ : Shape := ⟨0, ![]⟩
abbrev S16384x1 : Shape := ⟨2, ![16384, 1]⟩
abbrev S1024 : Shape := ⟨1, ![1024]⟩
abbrev S1024x1 : Shape := ⟨2, ![1024, 1]⟩
abbrev S100000 : Shape := ⟨1, ![100000]⟩
abbrev S100000x1 : Shape := ⟨2, ![100000, 1]⟩
abbrev S128x100000 : Shape := ⟨2, ![128, 100000]⟩
abbrev S1024x100000 : Shape := ⟨2, ![1024, 100000]⟩

abbrev nBuf : Space → Nat
  | .hbm => 45
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S16384x128, .f32⟩
  | .hbm, ⟨2, _⟩ => ⟨S16384, .i32⟩
  | .hbm, ⟨3, _⟩ => ⟨S1024x128, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S16384x128, .f32⟩
  | .hbm, ⟨13, _⟩ => ⟨S16384x128, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S100000x128, .f32⟩
  | .hbm, ⟨23, _⟩ => ⟨S1024x128, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S1024x1, .f32⟩
  | .hbm, ⟨28, _⟩ => ⟨S_, .f32⟩
  | .hbm, ⟨29, _⟩ => ⟨S1024x1, .f32⟩
  | .hbm, ⟨30, _⟩ => ⟨S1024x1, .f32⟩
  | .hbm, ⟨31, _⟩ => ⟨S1024x128, .f32⟩
  | .hbm, ⟨32, _⟩ => ⟨S1024x128, .f32⟩
  | .hbm, ⟨33, _⟩ => ⟨S100000x128, .f32⟩
  | .hbm, ⟨34, _⟩ => ⟨S_, .f32⟩
  | .hbm, ⟨35, _⟩ => ⟨S100000, .f32⟩
  | .hbm, ⟨36, _⟩ => ⟨S100000x1, .f32⟩
  | .hbm, ⟨37, _⟩ => ⟨S100000x1, .f32⟩
  | .hbm, ⟨38, _⟩ => ⟨S_, .f32⟩
  | .hbm, ⟨39, _⟩ => ⟨S100000x1, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S128x100000, .f32⟩
  | .hbm, ⟨44, _⟩ => ⟨S1024x100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_call1_v2 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Proof.KernelIdealBody.lean ====
/-
  The kernel body of `Cert.KernelIdeal`, run once for any float values. The body's first grid point stores the normalized
  query block to the scratch buffer; every point then stores, to the output's staging buffer, the product of the
  normalized weight block with the scratch buffer's contents.
-/
module

public import proofs.«01_k».proof.Proof.KernelRun
public import proofs.«01_k».proof.Proof.Gen.KernelIdeal.Frame
public import proofs.«01_k».proof.Proof.Gen.KernelIdeal.Skeleton
public import Idealize.ShloMosaic.Lib.Pipeline.Frame
public import Idealize.ShloMosaic.Lib.Pipeline.DatRel
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen
open Cert.Kernel.Hand (offs_zero load_whole)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- The body's test at grid coordinates `i`: the point is the first. -/
abbrev isFirst (i : grid0.Coords) : Prop :=
  Scalar.cmpi .ne (Scalar.extui (Scalar.cmpi .eq (BitVec.ofNat 32 (i 0).val) 0#32) : BitVec 32) 0#32 = 1#1

/-- The test succeeds exactly at point 0. -/
theorem isFirst_iff : ∀ t : Fin grid0.N, isFirst (grid0.coords t) ↔ t.val = 0 := by decide +kernel

/-- The scratch buffer, whole. -/
abbrev scM : Memref sig .tc .vmem S1024x128 .bf16 := Memref.whole cc0_scratch0

/-- The body at the first point: the scratch buffer, at anything before, ends at the normalized query block, and the output's
    staging buffer at the product of that with the normalized weight block. -/
theorem body_first (c : Dev nD) (E : Set ℕ) (i : grid0.Coords) (hc : isFirst i)
    (a1 : Memref sig .tc .vmem S2048x128 .f32) (h1 : a1.IsWhole) (a2 : Memref sig .tc .vmem S1024x128 .f32) (h2 : a2.IsWhole)
    (a3 : Memref sig .tc .vmem S1024x2048 .f32) (h3 : a3.IsWhole) (X0 : Vec F S2048x128 .f32) (X1 : Vec F S1024x128 .f32)
    (K : PUnit → sProp 𝕄) :
    iprop(owns (c : Thread nD τ) a1 fullShare X0 ∗ owns (c : Thread nD τ) a2 fullShare X1
        ∗ (∃ d, owns (c : Thread nD τ) a3 fullShare d) ∗ (∃ d, owns (c : Thread nD τ) scM fullShare d)
        ∗ (iprop(owns (c : Thread nD τ) a1 fullShare X0 ∗ owns (c : Thread nD τ) a2 fullShare X1
            ∗ owns (c : Thread nD τ) a3 fullShare (k0_pay2 X0 (k0_pay1 X1)) ∗ owns (c : Thread nD τ) scM fullShare (k0_pay1 X1)) -∗ K ⟨⟩))
      ⊢ wp frame (wpE (defs₀ (F := F)) Variants.none c none) E
          (cc0__mm_body i a1 h1 a2 h2 a3 h3 scM (Memref.isWhole_whole _)) K := by
  simp only [cc0__mm_body_eq_skeleton]; unfold cc0__mm_body_skel
  dsimp only
  rw [dif_pos hc]
  unfold owns
  iintro ⟨⟨%f1, %e1, H1⟩, ⟨%f2, %e2, H2⟩, ⟨%d3, %f3, -, H3⟩, ⟨%ds, %fs, -, HS⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro
    sl_unfold_words
    refine (LaneScatter.read_whole_store a3.view _ (congrFun offs_zero) _ _).trans ?_
    rw [View.readCov_unit_zero (S := S1024x128) _ offs_zero]
    exact congrArg₂ k0_pay2 ((load_whole a1.view offs_zero _ f1).trans e1)
      (congrArg k0_pay1 ((load_whole a2.view offs_zero _ f2).trans e2))
  · iexists _; isplitr; swap; · iexact HS
    ipureintro
    sl_unfold_words
    refine (LaneScatter.read_whole_store scM.view _ (congrFun offs_zero) _ _).trans ?_
    exact congrArg k0_pay1 ((load_whole a2.view offs_zero _ f2).trans e2)

/-- The body at a later point, the scratch buffer at `S`: the output's staging buffer ends at the product of `S` with the
    normalized weight block; everything else is left in place. -/
theorem body_later (c : Dev nD) (E : Set ℕ) (i : grid0.Coords) (hc : ¬ isFirst i)
    (a1 : Memref sig .tc .vmem S2048x128 .f32) (h1 : a1.IsWhole) (a2 : Memref sig .tc .vmem S1024x128 .f32) (h2 : a2.IsWhole)
    (a3 : Memref sig .tc .vmem S1024x2048 .f32) (h3 : a3.IsWhole) (X0 : Vec F S2048x128 .f32) (X1 : Vec F S1024x128 .f32)
    (S : Vec F S1024x128 .bf16) (K : PUnit → sProp 𝕄) :
    iprop(owns (c : Thread nD τ) a1 fullShare X0 ∗ owns (c : Thread nD τ) a2 fullShare X1
        ∗ (∃ d, owns (c : Thread nD τ) a3 fullShare d) ∗ owns (c : Thread nD τ) scM fullShare S
        ∗ (iprop(owns (c : Thread nD τ) a1 fullShare X0 ∗ owns (c : Thread nD τ) a2 fullShare X1
            ∗ owns (c : Thread nD τ) a3 fullShare (k0_pay2 X0 S) ∗ owns (c : Thread nD τ) scM fullShare S) -∗ K ⟨⟩))
      ⊢ wp frame (wpE (defs₀ (F := F)) Variants.none c none) E
          (cc0__mm_body i a1 h1 a2 h2 a3 h3 scM (Memref.isWhole_whole _)) K := by
  simp only [cc0__mm_body_eq_skeleton]; unfold cc0__mm_body_skel
  dsimp only
  rw [dif_neg hc]
  unfold owns
  iintro ⟨⟨%f1, %e1, H1⟩, ⟨%f2, %e2, H2⟩, ⟨%d3, %f3, -, H3⟩, ⟨%fs, %es, HS⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro
    sl_unfold_words
    refine (LaneScatter.read_whole_store a3.view _ (congrFun offs_zero) _ _).trans ?_
    exact congrArg₂ k0_pay2 ((load_whole a1.view offs_zero _ f1).trans e1) ((load_whole scM.view offs_zero _ fs).trans es)
  · iexists _; isplitr; swap; · iexact HS
    ipureintro; exact es

end Cert.KernelIdeal.Hand

end
-- ==== Proof.KernelIdealRun.lean ====
/-
  The run of `Cert.KernelIdeal`, for any float values. The weights' last block overhangs its array, so the rows of its
  staging buffer past the array's end hold contents nothing names, and the output's staging buffer is described by a
  relation: it holds the body's product at SOME weight block that agrees with the array on the rows inside it. The
  scratch buffer holds the normalized query block after the first point. From the run: the frame claim.
-/
module

public import proofs.«01_k».proof.Proof.KernelIdealBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The query, as the region finds it. -/
abbrev query (c : Dev nD) : Vec F S1024x128 .f32 := V m c main_arg3

/-- The weight block at point `t`: the array's rows inside it, and `d` on the rows past the array's end. -/
abbrev wblk (c : Dev nD) (t : Fin cfg0.N) (d : Vec F S2048x128 .f32) : Vec F S2048x128 .f32 :=
  win0_0.fill (grid0.coords t) d (iblk m c 0 t)

/-- The query's window holds the whole query at every point: its index map is constant and its block is the array. -/
theorem iblk_query (c : Dev nD) (t : Fin cfg0.N) : iblk m c 1 t = query m c :=
  have hz : (fun a => win0_1.index t a * main_arg3.ty.shape.size a) = fun _ => 0 := funext fun a => by fin_cases a <;> rfl
  Memref.read_access_unit_zero (Elt F) main_arg3 hz (fun a => by rw [congrFun hz a]; simp) (V m c main_arg3)

/-- The invariant before point `t`: before the first, the scratch buffer at anything; afterwards, at the normalized query. -/
def inv (c : Dev nD) (t : Fin (cfg0.N + 1)) : sProp 𝕄 :=
  if t.val = 0 then Pipeline.ΦA spec0 c
  else iprop(owns (c : Thread nD τ) scM fullShare (k0_pay1 (query m c)) ∗ (∃ r, prngReg c r))

/-- The proof data on core `c`: the arrays as the region finds them; the two inputs' buffers left in place; of the output's only a
    placeholder, which `outRel` replaces. -/
def dats (_ : Fin 1) (c : Dev nD) : Dat τ (Elt F) Unit ℕ (UR sig nD τ) ℕ cfg0 c where
  A w := V m c (Pipeline.arrRef spec0 w)
  after w t := match w with
    | ⟨0, _⟩ => wblk m c t fun _ => Scalar.ofBits .f32 0#32
    | ⟨1, _⟩ => query m c
    | ⟨2, _⟩ => fun _ => Scalar.ofBits .f32 0#32
  Φ t := inv m c t
  q _ := fullShare
  owed _ := 0

/-- The window described by a relation: the output's. -/
def related : Fin 3 → Bool := ![false, false, true]

/-- What the body leaves in the output's buffer at point `t`: its product, at some contents of the weight block's rows past the
    array's end. -/
def outRel (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun X => ∃ d : Vec F S2048x128 .f32, X = k0_pay2 (wblk m c t d) (k0_pay1 (query m c))

/-- The weights' buffer as the body finds it: just fetched. -/
theorem before_weights (c : Dev nD) (t : Fin cfg0.N) (d) : (dats m 0 c).before 0 t d = wblk m c t d := by
  unfold Dat.before; rw [if_pos (fetch0_0 t)]; unfold Dat.fetched Dat.blockOf wblk iblk; dsimp only [dats]

/-- The query's buffer as the body finds it: the query. -/
theorem before_query (c : Dev nD) (t : Fin cfg0.N) (d) : (dats m 0 c).before 1 t d = query m c :=
  (before0_1_of m (dats m 0 c) rfl (fun t => (iblk_query m c t).symm) t d).trans (iblk_query m c t)

/-- After any point the scratch buffer holds the normalized query. -/
theorem inv_succ (c : Dev nD) (t : Fin cfg0.N) :
    inv m c t.succ = iprop(owns (c : Thread nD τ) scM fullShare (k0_pay1 (query m c)) ∗ (∃ r, prngReg c r)) :=
  if_neg (by simp)

/-- So it does before any point but the first. -/
theorem inv_later (c : Dev nD) (t : Fin cfg0.N) (h : ¬ t.val = 0) :
    inv m c t.castSucc = iprop(owns (c : Thread nD τ) scM fullShare (k0_pay1 (query m c)) ∗ (∃ r, prngReg c r)) :=
  if_neg h

/-- Before the first it holds anything. -/
theorem inv_first (c : Dev nD) (t : Fin (cfg0.N + 1)) (h : t.val = 0) :
    inv m c t = iprop((∃ d, owns (c : Thread nD τ) scM fullShare d) ∗ (∃ r, prngReg c r)) := by
  unfold inv; rw [if_pos h]; unfold Pipeline.ΦA; rw [scopedRest0_eq]; simp only [scM, owns_whole]; rfl

/-! ## The body's obligation -/

/-- What the body is called with at point `t`. -/
def bodyPre (c : Dev nD) (t : Fin cfg0.N) : sProp 𝕄 :=
  iprop(inv m c t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ Y, ⌜((dats m 0 c).toRRel related (outRel m c)).Finds 2 t Y⌝ ∗ owns (c : Thread nD τ) (st0_2 t) fullShare Y))

/-- What it returns. -/
def bodyPost (c : Dev nD) (t : Fin cfg0.N) : sProp 𝕄 :=
  iprop(inv m c t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare (query m c)
    ∗ (∃ X, ⌜outRel m c 2 t X⌝ ∗ owns (c : Thread nD τ) (st0_2 t) fullShare X))

/-- The body at a point, from `body_first` and `body_later`. -/
theorem sound_body (c : Dev nD) (t : Fin cfg0.N) :
    bodyPre m c t ⊢ wp frame (wpE (defs₀ (F := F)) Variants.none c none) Set.univ (bodyAt0 t) (fun _ => bodyPost m c t) := by
  have hcut : win0_0.cut (grid0.coords t) ((dats m 0 c).after 0 t) = iblk m c 0 t := win0_0.cut_fill _ _ _
  unfold bodyPre bodyPost bodyAt0
  rw [show (dats m 0 c).owesAt () t.succ = (dats m 0 c).owesAt () t.castSucc from rfl, hcut, inv_succ]
  by_cases h : t.val = 0
  · rw [inv_first m c t.castSucc h]
    iintro ⟨⟨⟨%ds, HS⟩, Hg⟩, Ho, ⟨%d0, H0⟩, ⟨%d1, H1⟩, ⟨%Y, -, H2⟩⟩
    rw [before_weights, before_query]
    iapply (body_first c Set.univ (grid0.coords t) ((isFirst_iff t).mpr h) (st0_0 t) (hstage0_0 ((cfg0.slots t 0).cast nbuf0_0)) (st0_1 t) (hstage0_1 ((cfg0.slots t 1).cast nbuf0_1))
      (st0_2 t) (hstage0_2 ((cfg0.slots t 2).cast nbuf0_2)) (wblk m c t d0) (query m c) _)
    isplitl [H0]; · iexact H0
    isplitl [H1]; · iexact H1
    isplitl [H2]; · iexists _; iexact H2
    isplitl [HS]; · iexists _; iexact HS
    iintro ⟨H0, H1, H2, HS⟩
    isplitl [HS Hg]
    · isplitl [HS]; · iexact HS
      iexact Hg
    isplitl [Ho]; · iexact Ho
    isplitl [H0]; · iexists d0; iexact H0
    isplitl [H1]; · iexact H1
    iexists _; isplitr; swap; · iexact H2
    ipureintro; exact ⟨d0, rfl⟩
  · rw [inv_later m c t h]
    iintro ⟨⟨HS, Hg⟩, Ho, ⟨%d0, H0⟩, ⟨%d1, H1⟩, ⟨%Y, -, H2⟩⟩
    rw [before_weights, before_query]
    iapply (body_later c Set.univ (grid0.coords t) (fun hc => h ((isFirst_iff t).mp hc)) (st0_0 t) (hstage0_0 ((cfg0.slots t 0).cast nbuf0_0)) (st0_1 t) (hstage0_1 ((cfg0.slots t 1).cast nbuf0_1))
      (st0_2 t) (hstage0_2 ((cfg0.slots t 2).cast nbuf0_2)) (wblk m c t d0) (query m c) (k0_pay1 (query m c)) _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexists d0; iexact H0
    isplitl [H1]; · iexact H1
    iexists _; isplitr; swap; · iexact H2
    ipureintro; exact ⟨d0, rfl⟩

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, the output held to its relation. -/
theorem body_obligation (c : Dev nD) :
    BodyObligationRel (dats m 0 c) (defs₀ (F := F)) Variants.none () Set.univ related (outRel m c) := fun t => by
  rw [bigSep_W0, bigSep_W0, defs₀_row]
  exact triple_restated (sound_body m c t) rfl .rfl fun _ => .rfl

/-! ## The launch -/

/-- The relational data of the launch. -/
abbrev rdats (c : Dev nD) : Pipeline.RDat τ (Elt F) Unit ℕ (UR sig nD τ) ℕ cfg0 c := (dats m 0 c).toRRel related (outRel m c)

set_option backward.isDefEq.respectTransparency.types false in
/-- Every weakly fair execution of @main from any memory with zero counters terminates, the arrays end as the relational data
    say, every other unscoped buffer as the region found it, and every counter at zero. -/
theorem run_main :
    θ_run defs (onTc (τ := τ) (main (F := F))) (s₀ m ρ)
      (fun r => Pipeline.RDat.FramePost (cfgs 0) (rdats m) (V m) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := fun _ _ => rfl)
    (hin := fun c => by
      show Pipeline.ΦA spec0 c ⊢ inv m c 0
      unfold inv; rw [if_pos (by rfl)])
    (hout := fun c => by
      show inv m c (Fin.last cfg0.N) ⊢ Pipeline.ΦA spec0 c
      rw [show Pipeline.ΦA spec0 c = inv m c 0 from (if_pos rfl).symm, inv_first m c 0 rfl]
      unfold inv
      rw [if_neg (by rw [Fin.val_last, show cfg0.N = 49 from N_0]; decide)]
      iintro ⟨HS, Hg⟩
      isplitl [HS]; · iexists _; iexact HS
      iexact Hg)

/-- The arguments after the run, given what `run_main` says: as launched. -/
theorem args_kept {m : (ℓ : Loc nD τ sig) → Buf (Elt F) ℓ} {r : PUnit × MemSt nD τ sig (Elt F)}
    (h : Pipeline.RDat.FramePost (cfgs 0) (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (Pipeline.RDat.FramePost.arr_in h c 1 rfl).trans (V_main_arg3 m c)⟩

end Cert.KernelIdeal.Hand

end
-- ==== Proof.Pure.lean ====
/-
  The elements of the two programs' results over the extended reals, each read as one expression in a row of the query
  and a row of the weights: the sum over the 128 columns of the products of the two rows, each divided by the larger of
  its Euclidean norm and the constant both programs print.
-/
module

public import proofs.«01_k».proof.Proof.KernelIdealRun
public import proofs.«01_k».proof.Proof.Gen.ReferenceIdeal.Run
public import Idealize.ShloMosaic.Lib.Pointwise

@[expose] public section

set_option maxRecDepth 16384

noncomputable section

namespace Cert.Pure

open Idealize.ShloMosaic

/-- The larger of a row's Euclidean norm and the printed constant. -/
def norm (x : Fin 128 → EReal) : EReal := max (Ideal.sqrt (∑ l, x l * x l)) (Ideal.ofBits .f32 0x322BCC77#32)

/-- The cosine similarity of two rows: the inner product of the rows divided by `norm`. -/
def cosine (q w : Fin 128 → EReal) : EReal := ∑ k, Ideal.div (q k) (norm q) * Ideal.div (w k) (norm w)

/-- The kernel's block at row `r`, column `l`: the cosine similarity of row `r` of the query with row `l` of the weight block. -/
theorem kernel_elem (X : FVec Ideal Cert.KernelIdeal.S2048x128 .f32) (Q : FVec Ideal Cert.KernelIdeal.S1024x128 .f32)
    (r : Fin 1024) (l : Fin 2048) :
    Cert.KernelIdeal.Gen.k0_pay2 (F := Ideal) X (Cert.KernelIdeal.Gen.k0_pay1 (F := Ideal) Q) (ix2 r l)
      = cosine (fun k => Q (ix2 r k)) fun k => X (ix2 l k) := by
  pointwise [Cert.KernelIdeal.Gen.k0_pay2, Cert.KernelIdeal.Gen.k0_pay1, cosine, norm]

open Cert.ReferenceIdeal Cert.ReferenceIdeal.Gen in
/-- The reference's result as a function of the query and the updated weights. -/
def refTerm (Q : FVec Ideal S1024x128 .f32) (W : FVec Ideal S100000x128 .f32) : FVec Ideal S1024x100000 .f32 :=
  Host.dotGeneral dot_S1024x128_S128x100000_S1024x100000_1_0_0_1_n_n none
    (Host.divf Q (broadcastInDim S1024x128 ![0, 1] bcast_S1024x1_S1024x128_0_1
      (maximumf (Host.sqrt (broadcastInDim S1024x1 ![0] bcast_S1024_S1024x1_0
          (Host.reduceAdd (mulf Q Q) (constant S_ .f32 0x00000000#32) reducesTo_S1024x128_S1024_d1 h_S_)))
        (broadcastInDim S1024x1 ![] bcast_S_S1024x1 (constant S_ .f32 0x322BCC77#32)))))
    (transpose S128x100000 [1, 0]
      (Host.divf W (broadcastInDim S100000x128 ![0, 1] bcast_S100000x1_S100000x128_0_1
        (maximumf (Host.sqrt (broadcastInDim S100000x1 ![0] bcast_S100000_S100000x1_0
            (Host.reduceAdd (mulf W W) (constant S_ .f32 0x00000000#32) reducesTo_S100000x128_S100000_d1 h_S_)))
          (broadcastInDim S100000x1 ![] bcast_S_S100000x1 (constant S_ .f32 0x322BCC77#32)))))
      transposes_S100000x128_S128x100000_1_0)

/-- Its element at row `i`, column `j`: the cosine similarity of row `i` of the query with row `j` of the weights. -/
theorem reference_elem (Q : FVec Ideal Cert.ReferenceIdeal.S1024x128 .f32) (W : FVec Ideal Cert.ReferenceIdeal.S100000x128 .f32)
    (i : Fin 1024) (j : Fin 100000) :
    refTerm Q W (ix2 i j) = cosine (fun k => Q (ix2 i k)) fun k => W (ix2 j k) := by
  pointwise [refTerm, cosine, norm]

end Cert.Pure

end
-- ==== Proof.Value.lean ====
/-
  What the two programs' results hold over the extended reals. Both programs update the weights by the same host
  operations; the kernel's output array is then, element by element, the reference's result at the query and the updated
  weights.
-/
module

public import proofs.«01_k».proof.Proof.Pure
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

/-- The row numbers the programs update: a negative label counts from the end of the array. -/
def rowsOf (labels : Vec Ideal S16384 .i32) : Vec Ideal S16384x1 .i32 :=
  broadcastInDim S16384x1 ![0] bcast_S16384_S16384x1_0
    (select (cmpi .slt labels (broadcastInDim S16384 ![] bcast_S_S16384 (constantI S_ 32 0#32)))
      (addi labels (broadcastInDim S16384 ![] bcast_S_S16384 (constantI S_ 32 100000#32))) labels)

/-- The updated weights: each labelled row replaced by its sum with an update row. -/
def updated (W : Vec Ideal S100000x128 .f32) (U : Vec Ideal S16384x128 .f32) (labels : Vec Ideal S16384 .i32) : Vec Ideal S100000x128 .f32 :=
  Host.scatter scatter_S100000x128_S16384x1_S16384x128_1_0_0_1 (fun _ b => b) W (rowsOf labels)
    (addf (F := Ideal) (φ := .f32) (Host.gather gather_S100000x128_S16384x1_S16384x128_1_0_n_n_0_1_1128 W (rowsOf labels)) U)

variable (m : (ℓ : Loc nD τ sig) → Buf (Elt Ideal) ℓ)

/-- The weights as the region finds them: the host operations' update of the weights' argument. -/
theorem weights_updated (c : Dev nD) :
    V m c main_v14 = updated (m ((c.tc : Thread nD τ).loc main_arg0)) (m ((c.tc : Thread nD τ).loc main_arg1)) (m ((c.tc : Thread nD τ).loc main_arg2)) := by
  show StableHlo.after hostOps0 _ main_v14 = _
  after_results
  rfl

/-- The query as the region finds it: its argument. -/
theorem query_kept (c : Dev nD) : query m c = m ((c.tc : Thread nD τ).loc main_arg3) := by
  show StableHlo.after hostOps0 _ main_arg3 = _
  after_results

/-- At every point the two cut windows move the same extent: as many rows of the weights as columns of the output; and the
    uncut axes whole. -/
theorem extents : ∀ t : Fin grid0.N, win0_2.xsize (grid0.coords t) 1 = win0_0.xsize (grid0.coords t) 0
    ∧ win0_0.xsize (grid0.coords t) 1 = 128 ∧ win0_2.index t 1 = win0_0.index t 0 ∧ win0_2.index t 0 = 0 ∧ win0_0.index t 1 = 0 := by
  decide +kernel

/-- The rows a block's transfer moves end inside the array. -/
theorem inside : ∀ t : Fin grid0.N, win0_0.index t 0 * 2048 + win0_0.xsize (grid0.coords t) 0 ≤ 100000 := by decide +kernel

/-- The weights' block of point `t` places its row `p 0` and column `p 1` at those of the array, the row moved by the block's start. -/
theorem weights_emb (t : Fin grid0.N) (p : (win0_0.xblock (grid0.coords t)).Idx) (k : Fin 128) (j : Fin 100000)
    (hj : j.val = win0_0.index t 0 * 2048 + (p 0).val) (hk : k.val = (p 1).val) : (win0_0.blk t).view.emb p = ix2 j k := by
  funext a
  refine Fin.ext ?_
  fin_cases a
  · exact (Pipeline.Window.rect_emb_val win0_0 t p 0 rfl).trans hj.symm
  · refine (Pipeline.Window.rect_emb_val win0_0 t p 1 rfl).trans ?_
    rw [(extents t).2.2.2.2]
    show 0 * _ + (p 1).val = k.val
    omega

/-- A row of a filled block inside the array is the array's row, whatever the rows past the array's end hold. -/
theorem fill_row (A : Vec Ideal S100000x128 .f32) (t : Fin grid0.N) (d : Vec Ideal S2048x128 .f32) (l : Fin 2048)
    (hl : l.val < win0_0.xsize (grid0.coords t) 0) (k : Fin 128) (j : Fin 100000) (hj : j.val = win0_0.index t 0 * 2048 + l.val) :
    win0_0.fill (grid0.coords t) d ((win0_0.blk t).view.read (Elt Ideal) A) (ix2 l k) = A (ix2 j k) := by
  have hk : k.val < win0_0.xsize (grid0.coords t) 1 := by rw [(extents t).2.1]; exact k.isLt
  let p : (win0_0.xblock (grid0.coords t)).Idx := fun a => match a with | ⟨0, _⟩ => ⟨l.val, hl⟩ | ⟨1, _⟩ => ⟨k.val, hk⟩
  have hp : (ix2 l k : S2048x128.Idx) = win0_0.xinj (grid0.coords t) p := by funext a; fin_cases a <;> rfl
  rw [hp]
  refine (win0_0.fill_xinj (grid0.coords t) d _ p).trans ?_
  exact congrArg A (weights_emb t p k j hj rfl)

/-- The output's block of point `t` places its row `y 0` and column `y 1` at those of the array, the column moved by the block's start. -/
theorem output_emb (t : Fin grid0.N) (y : (win0_2.xblock (grid0.coords t)).Idx) (i : Fin 1024) (j : Fin 100000)
    (hi : i.val = (y 0).val) (hj : j.val = win0_2.index t 1 * 2048 + (y 1).val) : (win0_2.blk t).view.emb y = ix2 i j := by
  funext a
  refine Fin.ext ?_
  fin_cases a
  · refine (Pipeline.Window.rect_emb_val win0_2 t y 0 rfl).trans ?_
    rw [(extents t).2.2.2.1]
    show 0 * _ + (y 0).val = i.val
    omega
  · exact (Pipeline.Window.rect_emb_val win0_2 t y 1 rfl).trans hj.symm

/-- What the body leaves at a place of the output's block inside the array is the reference's element at the array's place. -/
theorem block_value (Q : Vec Ideal S1024x128 .f32) (A : Vec Ideal S100000x128 .f32) (t : Fin grid0.N) (d : Vec Ideal S2048x128 .f32)
    (y : (win0_2.xblock (grid0.coords t)).Idx) :
    k0_pay2 (F := Ideal) (win0_0.fill (grid0.coords t) d ((win0_0.blk t).view.read (Elt Ideal) A)) (k0_pay1 (F := Ideal) Q)
        (win0_2.xinj (grid0.coords t) y)
      = Cert.Pure.refTerm Q A ((win0_2.blk t).view.emb y) := by
  have hr : (y 0).val < 1024 := Nat.lt_of_lt_of_le (y 0).isLt (win0_2.xsize_le (grid0.coords t) 0)
  have hl : (y 1).val < 2048 := Nat.lt_of_lt_of_le (y 1).isLt (win0_2.xsize_le (grid0.coords t) 1)
  have hin : (y 1).val < win0_0.xsize (grid0.coords t) 0 := by rw [← (extents t).1]; exact (y 1).isLt
  have hj : win0_0.index t 0 * 2048 + (y 1).val < 100000 := Nat.lt_of_lt_of_le (Nat.add_lt_add_left hin _) (inside t)
  have hy : win0_2.xinj (grid0.coords t) y = (ix2 ⟨(y 0).val, hr⟩ ⟨(y 1).val, hl⟩ : S1024x2048.Idx) := by
    funext a; fin_cases a <;> rfl
  rw [output_emb t y ⟨(y 0).val, hr⟩ ⟨_, hj⟩ rfl (by rw [(extents t).2.2.1]), hy]
  refine (Cert.Pure.kernel_elem _ Q _ _).trans (Eq.trans ?_ (Cert.Pure.reference_elem Q A _ _).symm)
  exact congrArg (Cert.Pure.cosine _) (funext fun k => fill_row A t d ⟨(y 1).val, hl⟩ hin k ⟨_, hj⟩ rfl)

/-- THE KERNEL'S RESULT: after the run the output array holds the reference's result at the query and the updated weights. -/
theorem result {r : PUnit × MemSt nD τ sig (Elt Ideal)} (h : Pipeline.RDat.FramePost (cfgs 0) (rdats m) (V m) r) (c : Dev nD) :
    r.2.mem ((c.tc : Thread nD τ).loc main_v15) = Cert.Pure.refTerm (query m c) (V m c main_v14) := by
  obtain ⟨after, hL, hA⟩ := Pipeline.RDat.FramePost.exists_exact h c
  refine (hA 2).trans (Dat.arrAt_eq_of_covers _ 2 _ (by decide +kernel) fun t hf y => ?_)
  obtain ⟨d, hd⟩ : outRel m c 2 t (after 2 t) := Dat.toRRel_leaves _ rfl (hL 2 t hf)
  rw [Pipeline.RDat.withAfter_after, hd]
  blk_simp
  exact block_value (query m c) (V m c main_v14) t d y

end Cert.KernelIdeal.Hand

end
-- ==== Proof.Claims.lean ====
/-
  The claims, one theorem each: the frames of the kernel (at both readings) and of the reference, and the equality of
  the kernel's result with the reference's over the extended reals.
-/
module

public import proofs.«01_k».proof.Proof.Value
public import proofs.«01_k».proof.Defs
public import Idealize.ShloMosaic.Lib.Quiescent

@[expose] public section

noncomputable section

namespace Cert.Proof

open Idealize.ShloMosaic Idealize.SL.Sem

/-- The kernel at the machine's formats runs to its end, keeps its arguments and leaves every semaphore at zero. -/
theorem frame_kernel : Cert.quiescent_Kernel (hKernel := Cert.Kernel.Gen.facts) := fun m g _ =>
  (θ_run _ _ _).mono (fun _ h => ⟨Cert.Kernel.Hand.args_kept h.1, h.2⟩) (Cert.Kernel.Hand.run_main m g)

/-- So does the kernel over the extended reals. -/
theorem frame_kernelIdeal : Cert.quiescent_KernelIdeal (hKernelIdeal := Cert.KernelIdeal.Gen.facts) := fun m g _ =>
  (θ_run _ _ _).mono (fun _ h => ⟨Cert.KernelIdeal.Hand.args_kept h.1, h.2⟩) (Cert.KernelIdeal.Hand.run_main m g)

/-- So does the reference, which declares no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- What both programs compute from the weights, their updates, the labels and the query. -/
def value (W : Vec Ideal Cert.KernelIdeal.S100000x128 .f32) (U : Vec Ideal Cert.KernelIdeal.S16384x128 .f32)
    (labels : Vec Ideal Cert.KernelIdeal.S16384 .i32) (Q : Vec Ideal Cert.KernelIdeal.S1024x128 .f32) :
    Vec Ideal Cert.KernelIdeal.S1024x100000 .f32 :=
  Cert.Pure.refTerm Q (Cert.KernelIdeal.Hand.updated W U labels)

/-- Equal arguments have equal values. -/
theorem value_congr {W W' U U' L L' Q Q'} (h : W' = W ∧ U' = U ∧ L' = L ∧ Q' = Q) : value W' U' L' Q' = value W U L Q := by
  obtain ⟨rfl, rfl, rfl, rfl⟩ := h; rfl

/-- Over the extended reals the kernel's result is the reference's, from equal arguments. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => value (m (c.tc.loc Cert.KernelIdeal.main_arg0)) (m (c.tc.loc Cert.KernelIdeal.main_arg1))
    (m (c.tc.loc Cert.KernelIdeal.main_arg2)) (m (c.tc.loc Cert.KernelIdeal.main_arg3)), ?_, ?_⟩
  · refine (θ_run _ _ _).mono (fun r h c => ⟨?_, Cert.KernelIdeal.Hand.args_kept h.1 c⟩) (Cert.KernelIdeal.Hand.run_main m g)
    refine (Cert.KernelIdeal.Hand.result m h.1 c).trans ?_
    exact congrArg₂ Cert.Pure.refTerm (Cert.KernelIdeal.Hand.query_kept m c) (Cert.KernelIdeal.Hand.weights_updated m c)
  · refine (θ_run _ _ _).mono (fun r h c => ⟨(h c).1.trans ?_, (h c).2⟩) (Cert.ReferenceIdeal.Value.run m' g')
    exact value_congr (hm c)

end Cert.Proof

end
-- ==== Proof.lean ====
/-
  The proof of `Cert.Claim` (proofs.«01_k».proof.Defs): the programs' facts, the three frames, the kernel's reading over
  the extended reals, and the equality of its result with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
